-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512x32x32 : Shape := ⟨4, ![64, 512, 32, 32]⟩
abbrev S64x512 : Shape := ⟨2, ![64, 512]⟩
abbrev S64 : Shape := ⟨1, ![64]⟩
abbrev S64x512x1024 : Shape := ⟨3, ![64, 512, 1024]⟩
abbrev S64x1024x512 : Shape := ⟨3, ![64, 1024, 512]⟩
abbrev S64x2x512x512 : Shape := ⟨4, ![64, 2, 512, 512]⟩
abbrev S64x1 : Shape := ⟨2, ![64, 1]⟩
abbrev S64x32768 : Shape := ⟨2, ![64, 32768]⟩
abbrev S8x1x512x512 : Shape := ⟨4, ![8, 1, 512, 512]⟩
abbrev S8x32768 : Shape := ⟨2, ![8, 32768]⟩
abbrev S8x64x512 : Shape := ⟨3, ![8, 64, 512]⟩
abbrev S8x64x1 : Shape := ⟨3, ![8, 64, 1]⟩
abbrev S1x1x512x512 : Shape := ⟨4, ![1, 1, 512, 512]⟩
abbrev S512x512 : Shape := ⟨2, ![512, 512]⟩
abbrev S512 : Shape := ⟨1, ![512]⟩
abbrev S1x512 : Shape := ⟨2, ![1, 512]⟩
abbrev S1x64x512 : Shape := ⟨3, ![1, 64, 512]⟩
abbrev S1x64x1 : Shape := ⟨3, ![1, 64, 1]⟩
abbrev S1 : Shape := ⟨1, ![1]⟩
abbrev S1x1x1 : Shape := ⟨3, ![1, 1, 1]⟩

abbrev nBuf : Space → Nat
  | .hbm => 9
  | .vmem => 9
  | .smem => 0
  | _ => 0

abbrev bufTy : (tb : Table) → Fin (tcTables nBuf tb) → BufTy
  | .hbm, ⟨0, _⟩ => ⟨S64x512x32x32, .f32⟩
  | .hbm, ⟨1, _⟩ => ⟨S64x512, .f32⟩
  | .hbm, ⟨2, _⟩ => ⟨S64, .f32⟩
  | .hbm, ⟨3, _⟩ => ⟨S64x512, .f32⟩
  | .hbm, ⟨4, _⟩ => ⟨S64x512x1024, .f32⟩
  | .hbm, ⟨5, _⟩ => ⟨S64x1024x512, .f32⟩
  | .hbm, ⟨6, _⟩ => ⟨S64x2x512x512, .f32⟩
  | .hbm, ⟨7, _⟩ => ⟨S64x1, .f32⟩
  | .hbm, ⟨8, _⟩ => ⟨S64x32768, .f32⟩
  | .local _ .vmem, ⟨0, _⟩ => ⟨S8x1x512x512, .f32⟩
  | .local _ .vmem, ⟨1, _⟩ => ⟨S8x1x512x512, .f32⟩
  | .local _ .vmem, ⟨2, _⟩ => ⟨S64x512, .f32⟩
  | .local _ .vmem, ⟨3, _⟩ => ⟨S64x1, .f32⟩
  | .local _ .vmem, ⟨4, _⟩ => ⟨S64x512, .f32⟩
  | .local _ .vmem, ⟨5, _⟩ => ⟨S8x32768, .f32⟩
  | .local _ .vmem, ⟨6, _⟩ => ⟨S8x32768, .f32⟩
  | .local _ .vmem, ⟨7, _⟩ => ⟨S8x64x512, .f32⟩
  | .local _ .vmem, ⟨8, _⟩ => ⟨S8x64x1, .f32⟩
  | _, _ => ⟨S64x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 2], ![false, false]⟩

def k0_cond17 (i : grid0.Coords) : BitVec 1 :=
  let arg1 : BitVec 32 := BitVec.ofNat 32 (i 1).val
  let c1_i32 : BitVec 32 := 1#32
  let v204 : BitVec 1 := Scalar.cmpi .eq arg1 c1_i32
  let v205 : BitVec 32 := Scalar.extui v204
  let c0_i32_98 : BitVec 32 := 0#32
  let v206 : BitVec 1 := Scalar.cmpi .ne v205 c0_i32_98
  v206

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x32768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S64x512x32x32 : Shape := ⟨4, ![64, 512, 32, 32]⟩
abbrev S64x512 : Shape := ⟨2, ![64, 512]⟩
abbrev S64 : Shape := ⟨1, ![64]⟩
abbrev S64x512x1024 : Shape := ⟨3, ![64, 512, 1024]⟩
abbrev S64x64x1024 : Shape := ⟨3, ![64, 64, 1024]⟩
abbrev S1x64x1 : Shape := ⟨3, ![1, 64, 1]⟩
abbrev S_ : Shape := ⟨0, ![]⟩
abbrev S64x1024 : Shape := ⟨2, ![64, 1024]⟩
abbrev S64x1x1024 : Shape := ⟨3, ![64, 1, 1024]⟩
abbrev S64x64x512 : Shape := ⟨3, ![64, 64, 512]⟩
abbrev S64x64 : Shape := ⟨2, ![64, 64]⟩
abbrev S64x64x1 : Shape := ⟨3, ![64, 64, 1]⟩
abbrev S1x64x512 : Shape := ⟨3, ![1, 64, 512]⟩
abbrev S64x32768 : Shape := ⟨2, ![64, 32768]⟩
abbrev S64x1 : Shape := ⟨2, ![64, 1]⟩

abbrev nBuf : Space → Nat
  | .hbm => 54
  | .vmem => 0
  | .smem => 0
  | _ => 0

abbrev bufTy : (tb : Table) → Fin (tcTables nBuf tb) → BufTy
  | .hbm, ⟨0, _⟩ => ⟨S64x512x32x32, .f32⟩
  | .hbm, ⟨1, _⟩ => ⟨S64x512, .f32⟩
  | .hbm, ⟨2, _⟩ => ⟨S64, .f32⟩
  | .hbm, ⟨3, _⟩ => ⟨S64x512, .f32⟩
  | .hbm, ⟨4, _⟩ => ⟨S64x512x1024, .f32⟩
  | .hbm, ⟨5, _⟩ => ⟨S64x64x1024, .f32⟩
  | .hbm, ⟨6, _⟩ => ⟨S64x64x1024, .f32⟩
  | .hbm, ⟨7, _⟩ => ⟨S1x64x1, .f32⟩
  | .hbm, ⟨8, _⟩ => ⟨S64x64x1024, .f32⟩
  | .hbm, ⟨9, _⟩ => ⟨S64x64x1024, .f32⟩
  | .hbm, ⟨10, _⟩ => ⟨S_, .f32⟩
  | .hbm, ⟨11, _⟩ => ⟨S64x1024, .f32⟩
  | .hbm, ⟨12, _⟩ => ⟨S_, .f32⟩
  | .hbm, ⟨13, _⟩ => ⟨S64x1024, .f32⟩
  | .hbm, ⟨14, _⟩ => ⟨S64x1024, .f32⟩
  | .hbm, ⟨15, _⟩ => ⟨S64x1x1024, .f32⟩
  | .hbm, ⟨16, _⟩ => ⟨S64x64x1024, .f32⟩
  | .hbm, ⟨17, _⟩ => ⟨S64x64x1024, .f32⟩
  | .hbm, ⟨18, _⟩ => ⟨S64x64x1024, .f32⟩
  | .hbm, ⟨19, _⟩ => ⟨S_, .f32⟩
  | .hbm, ⟨20, _⟩ => ⟨S64x1024, .f32⟩
  | .hbm, ⟨21, _⟩ => ⟨S64x1x1024, .f32⟩
  | .hbm, ⟨22, _⟩ => ⟨S64x64x1024, .f32⟩
  | .hbm, ⟨23, _⟩ => ⟨S64x64x1024, .f32⟩
  | .hbm, ⟨24, _⟩ => ⟨S64x64x512, .f32⟩
  | .hbm, ⟨25, _⟩ => ⟨S_, .f32⟩
  | .hbm, ⟨26, _⟩ => ⟨S64x64, .f32⟩
  | .hbm, ⟨27, _⟩ => ⟨S64x64x1, .f32⟩
  | .hbm, ⟨28, _⟩ => ⟨S1x64x512, .f32⟩
  | .hbm, ⟨29, _⟩ => ⟨S64x64x512, .f32⟩
  | .hbm, ⟨30, _⟩ => ⟨S64x64x512, .f32⟩
  | .hbm, ⟨31, _⟩ => ⟨S64x64x512, .f32⟩
  | .hbm, ⟨32, _⟩ => ⟨S64x64x512, .f32⟩
  | .hbm, ⟨33, _⟩ => ⟨S64x64x512, .f32⟩
  | .hbm, ⟨34, _⟩ => ⟨S_, .f32⟩
  | .hbm, ⟨35, _⟩ => ⟨S64x64, .f32⟩
  | .hbm, ⟨36, _⟩ => ⟨S64x64x1, .f32⟩
  | .hbm, ⟨37, _⟩ => ⟨S64x64x1, .f32⟩
  | .hbm, ⟨38, _⟩ => ⟨S_, .f32⟩
  | .hbm, ⟨39, _⟩ => ⟨S64x64x1, .f32⟩
  | .hbm, ⟨40, _⟩ => ⟨S64x64x1, .f32⟩
  | .hbm, ⟨41, _⟩ => ⟨S64x64x512, .f32⟩
  | .hbm, ⟨42, _⟩ => ⟨S64x64x512, .f32⟩
  | .hbm, ⟨43, _⟩ => ⟨S64x32768, .f32⟩
  | .hbm, ⟨44, _⟩ => ⟨S64x32768, .f32⟩
  | .hbm, ⟨45, _⟩ => ⟨S_, .f32⟩
  | .hbm, ⟨46, _⟩ => ⟨S64, .f32⟩
  | .hbm, ⟨47, _⟩ => ⟨S64x1, .f32⟩
  | .hbm, ⟨48, _⟩ => ⟨S64x1, .f32⟩
  | .hbm, ⟨49, _⟩ => ⟨S_, .f32⟩
  | .hbm, ⟨50, _⟩ => ⟨S64x1, .f32⟩
  | .hbm, ⟨51, _⟩ => ⟨S64x1, .f32⟩
  | .hbm, ⟨52, _⟩ => ⟨S64x32768, .f32⟩
  | .hbm, ⟨53, _⟩ => ⟨S64x32768, .f32⟩
  | _, _ => ⟨S64x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call0_v0 : Ref sig .tc := ⟨.hbm, 33, rfl⟩
abbrev main_call0_cst : Ref sig .tc := ⟨.hbm, 34, rfl⟩
abbrev main_call0_v1 : Ref sig .tc := ⟨.hbm, 35, rfl⟩
abbrev main_call0_v2 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call1_v0 : Ref sig .tc := ⟨.hbm, 44, rfl⟩
abbrev main_call1_cst : Ref sig .tc := ⟨.hbm, 45, rfl⟩
abbrev main_call1_v1 : Ref sig .tc := ⟨.hbm, 46, rfl⟩
abbrev main_call1_v2 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩

abbrev nD : Nat := 1
abbrev τ : Topo := Topo.v7x

variable {F : FTy → Type} [FloatOps F]
-- ==== Proof.Vlad.Spec.lean ====
module

public import Idealize.ShloMosaic.Lib.Pointwise

/-!
  The mathematics of one sample, over the extended reals and over plain coordinates: the cluster `k` (of 64), the
  channel `c` (of 512), the pixel `p`. Nothing here is about a program.
-/

@[expose] public section

noncomputable section

namespace Cert.Vlad

open Idealize.ShloMosaic

/-- The floor under which a norm is not divided by. -/
def eps : EReal := Ideal.ofBits .f32 0x2B8CBCCC#32

/-- The logit of cluster `k` at a pixel whose channels are `x`: the row of weights against the channels, and the bias. -/
def logit (w : Fin 64 → Fin 512 → EReal) (b : Fin 64 → EReal) (x : Fin 512 → EReal) (k : Fin 64) : EReal :=
  ∑ c, w k c * x c + b k

/-- The largest logit of a pixel (from minus infinity on). -/
def top (w : Fin 64 → Fin 512 → EReal) (b : Fin 64 → EReal) (x : Fin 512 → EReal) : EReal :=
  Finset.univ.fold max (Ideal.ofBits .f32 0xFF800000#32) fun k => logit w b x k

/-- The soft assignment of a pixel to cluster `k`: the softmax of its logits. -/
def soft (w : Fin 64 → Fin 512 → EReal) (b : Fin 64 → EReal) (x : Fin 512 → EReal) (k : Fin 64) : EReal :=
  Ideal.div (Ideal.exp (logit w b x k - top w b x)) (∑ k', Ideal.exp (logit w b x k' - top w b x))

/-- The pixels `X` summed per cluster with their soft assignments as weights. -/
def gather {n : Nat} (w : Fin 64 → Fin 512 → EReal) (b : Fin 64 → EReal) (X : Fin n → Fin 512 → EReal) (k : Fin 64)
    (c : Fin 512) : EReal :=
  ∑ p, soft w b (X p) k * X p c

/-- The soft assignments of the pixels `X` to cluster `k`, summed. -/
def mass {n : Nat} (w : Fin 64 → Fin 512 → EReal) (b : Fin 64 → EReal) (X : Fin n → Fin 512 → EReal) (k : Fin 64) : EReal :=
  ∑ p, soft w b (X p) k

/-- The residual: the gathered pixels less the centroid taken as often as the mass says. -/
def resid (C V : Fin 64 → Fin 512 → EReal) (A : Fin 64 → EReal) (k : Fin 64) (c : Fin 512) : EReal :=
  V k c - A k * C k c

/-- The residual with each cluster's row divided by its norm. -/
def rows (C V : Fin 64 → Fin 512 → EReal) (A : Fin 64 → EReal) (k : Fin 64) (c : Fin 512) : EReal :=
  Ideal.div (resid C V A k c) (max (Ideal.sqrt (∑ c', resid C V A k c' * resid C V A k c')) eps)

/-- The rows divided by the norm of all of them together: what the sample's result holds. -/
def finish (C V : Fin 64 → Fin 512 → EReal) (A : Fin 64 → EReal) (k : Fin 64) (c : Fin 512) : EReal :=
  Ideal.div (rows C V A k c) (max (Ideal.sqrt (∑ k', ∑ c', rows C V A k' c' * rows C V A k' c')) eps)

end Cert.Vlad

end
-- ==== Proof.Vlad.Reference.lean ====
module

public import proofs.«01_k».proof.Proof.Gen.ReferenceIdeal.Run
public import proofs.«01_k».proof.Proof.Vlad.Spec
public import Idealize.ShloMosaic.Lib.KernelVsHost
public import Idealize.ShloMosaic.Lib.Pipeline.ValueKit.Acc

/-!
  What the reference computes: its composed term in stages, each read at an index, and the whole as the sample's closing
  normalisations.
-/

@[expose] public section

noncomputable section

namespace Cert.Vlad

open Cert.ReferenceIdeal Cert.ReferenceIdeal.Gen Idealize.ShloMosaic Idealize.ShloMosaic.TcCoe Idealize.SL.Sem

namespace Ref

/-- The pixels flattened: sample, channel, pixel. -/
def pix (x : FVec Ideal S64x512x32x32 .f32) : FVec Ideal S64x512x1024 .f32 :=
  shapeCast _ x shapeCasts_S64x512x32x32_S64x512x1024

/-- The logits: sample, cluster, pixel. -/
def logits (x : FVec Ideal S64x512x32x32 .f32) (w : FVec Ideal S64x512 .f32) (b : FVec Ideal S64 .f32) : FVec Ideal S64x64x1024 .f32 :=
  addf (transpose S64x64x1024 [1, 0, 2] (Host.dotGeneral dot_S64x512_S64x512x1024_S64x64x1024_1_1_0_02_n_n none w (pix x)) transposes_S64x64x1024_S64x64x1024_1_0_2)
    (broadcastInDim S64x64x1024 ![0, 1, 2] bcast_S1x64x1_S64x64x1024_0_1_2 (broadcastInDim S1x64x1 ![1] bcast_S64_S1x64x1_1 b))

/-- The largest logit of every pixel. -/
def tops (l : FVec Ideal S64x64x1024 .f32) : FVec Ideal S64x1024 .f32 :=
  maximumf (broadcastInDim S64x1024 ![] bcast_S_S64x1024 (constant S_ .f32 0xFF800000#32))
    (Host.reduce FloatOps.maximumf l (constant S_ .f32 0xFF800000#32) reducesTo_S64x64x1024_S64x1024_d1 h_S_)

/-- The exponentials of the logits less the largest. -/
def exps (l : FVec Ideal S64x64x1024 .f32) : FVec Ideal S64x64x1024 .f32 :=
  Host.exp (subf l (broadcastInDim S64x64x1024 ![0, 1, 2] bcast_S64x1x1024_S64x64x1024_0_1_2 (broadcastInDim S64x1x1024 ![0, 2] bcast_S64x1024_S64x1x1024_0_2 (tops l))))

/-- The soft assignments. -/
def softs (l : FVec Ideal S64x64x1024 .f32) : FVec Ideal S64x64x1024 .f32 :=
  Host.divf (exps l) (broadcastInDim S64x64x1024 ![0, 1, 2] bcast_S64x1x1024_S64x64x1024_0_1_2 (broadcastInDim S64x1x1024 ![0, 2] bcast_S64x1024_S64x1x1024_0_2
    (Host.reduceAdd (exps l) (constant S_ .f32 0x00000000#32) reducesTo_S64x64x1024_S64x1024_d1 h_S_)))

/-- The residuals of the centroids `C`, from the assignments `a` and the pixels `x`. -/
def resids (a : FVec Ideal S64x64x1024 .f32) (x : FVec Ideal S64x512x1024 .f32) (C : FVec Ideal S64x512 .f32) : FVec Ideal S64x64x512 .f32 :=
  subf (Host.dotGeneral dot_S64x64x1024_S64x512x1024_S64x64x512_2_2_1_1_0_0 none a x)
    (mulf (broadcastInDim S64x64x512 ![0, 1, 2] bcast_S64x64x1_S64x64x512_0_1_2 (broadcastInDim S64x64x1 ![0, 1] bcast_S64x64_S64x64x1_0_1
        (Host.reduceAdd a (constant S_ .f32 0x00000000#32) reducesTo_S64x64x1024_S64x64_d2 h_S_)))
      (broadcastInDim S64x64x512 ![0, 1, 2] bcast_S1x64x512_S64x64x512_0_1_2 (broadcastInDim S1x64x512 ![1, 2] bcast_S64x512_S1x64x512_1_2 C)))

/-- Each cluster's row divided by its norm. -/
def unitRows (v : FVec Ideal S64x64x512 .f32) : FVec Ideal S64x64x512 .f32 :=
  Host.divf v (broadcastInDim S64x64x512 ![0, 1, 2] bcast_S64x64x1_S64x64x512_0_1_2
    (maximumf (Host.sqrt (broadcastInDim S64x64x1 ![0, 1] bcast_S64x64_S64x64x1_0_1
        (Host.reduceAdd (mulf v v) (constant S_ .f32 0x00000000#32) reducesTo_S64x64x512_S64x64_d2 h_S_)))
      (broadcastInDim S64x64x1 ![] bcast_S_S64x64x1 (constant S_ .f32 0x2B8CBCCC#32))))

/-- The rows of a sample laid in one line. -/
def flat (r : FVec Ideal S64x64x512 .f32) : FVec Ideal S64x32768 .f32 :=
  shapeCast _ r shapeCasts_S64x64x512_S64x32768

/-- Each sample's line divided by its norm. -/
def unitLines (f : FVec Ideal S64x32768 .f32) : FVec Ideal S64x32768 .f32 :=
  Host.divf f (broadcastInDim S64x32768 ![0, 1] bcast_S64x1_S64x32768_0_1
    (maximumf (Host.sqrt (broadcastInDim S64x1 ![0] bcast_S64_S64x1_0
        (Host.reduceAdd (mulf f f) (constant S_ .f32 0x00000000#32) reducesTo_S64x32768_S64_d1 h_S_)))
      (broadcastInDim S64x1 ![] bcast_S_S64x1 (constant S_ .f32 0x2B8CBCCC#32))))

/-- The reference's term is these stages, one after the other. -/
theorem staged (m : (ℓ : Loc nD τ sig) → Buf (Elt Ideal) ℓ) (c : Dev nD) :
    Cert.ReferenceIdeal.Value.res_out0 m c
      = unitLines (flat (unitRows (resids (softs (logits (m ((c.tc : Thread nD τ).loc main_arg0)) (m ((c.tc : Thread nD τ).loc main_arg1)) (m ((c.tc : Thread nD τ).loc main_arg2))))
          (pix (m ((c.tc : Thread nD τ).loc main_arg0))) (m ((c.tc : Thread nD τ).loc main_arg3))))) := rfl

/-- The pixels of sample `n` of the input. -/
abbrev px (x : FVec Ideal S64x512x32x32 .f32) (n : Fin 64) : Fin 1024 → Fin 512 → EReal :=
  fun p ch => x (ix4 n ch ⟨p.val / 32, by omega⟩ ⟨p.val % 32, by omega⟩)

/-- The flattened pixels at an index. -/
theorem pix_apply (x) (n : Fin 64) (ch : Fin 512) (p : Fin 1024) : pix x (ix3 n ch p) = px x n p ch := by
  pointwise [pix]

/-- A logit at an index. -/
theorem logits_apply (x w b) (n k : Fin 64) (p : Fin 1024) :
    logits x w b (ix3 n k p) = logit (fun k c => w (ix2 k c)) (fun k => b (ix1 k)) (px x n p) k := by
  pointwise [logits, logit]
  simp only [pix_apply]

/-- The middle axis of three can be reduced. -/
theorem reduces_mid : S64x64x1024.Reduces [1] S64x1024 := by decide

/-- The reduction by maximum, written as the vector reduction from minus infinity. -/
theorem reduce_max (l : FVec Ideal S64x64x1024 .f32) :
    Host.reduce FloatOps.maximumf l (constant S_ .f32 0xFF800000#32) reducesTo_S64x64x1024_S64x1024_d1 h_S_
      = multiReduction .maximumf [1] S64x1024 l 0xFF800000#32 reduces_mid (.inl rfl) rfl :=
  hostReduce_maximumf_eq_multiReduction ..

/-- The reduction by maximum at an index. -/
theorem reduce_max_apply (l : FVec Ideal S64x64x1024 .f32) (n : Fin 64) (p : Fin 1024) :
    multiReduction .maximumf [1] S64x1024 l 0xFF800000#32 reduces_mid (.inl rfl) rfl (ix2 n p)
      = Finset.univ.fold max (Ideal.ofBits .f32 0xFF800000#32) fun k => l (ix3 n k p) := by
  pointwise

/-- The larger of minus infinity and an entry of `r`. -/
theorem max_first_apply (r : FVec Ideal S64x1024 .f32) (n : Fin 64) (p : Fin 1024) :
    maximumf (broadcastInDim S64x1024 ![] bcast_S_S64x1024 (constant S_ .f32 0xFF800000#32)) r (ix2 n p)
      = max (Ideal.ofBits .f32 0xFF800000#32) (r (ix2 n p)) := by
  pointwise

/-- The largest logit of a pixel, from minus infinity on. -/
theorem tops_apply (l) (n : Fin 64) (p : Fin 1024) :
    tops l (ix2 n p) = Finset.univ.fold max (Ideal.ofBits .f32 0xFF800000#32) fun k => l (ix3 n k p) := by
  rw [tops, reduce_max, max_first_apply, reduce_max_apply]
  exact max_eq_right ((Finset.le_fold_max _).mpr (Or.inl le_rfl))

/-- A soft assignment, from the logits. -/
theorem softs_apply (l) (n k : Fin 64) (p : Fin 1024) :
    softs l (ix3 n k p) = Ideal.div (Ideal.exp (l (ix3 n k p) - tops l (ix2 n p))) (∑ k', Ideal.exp (l (ix3 n k' p) - tops l (ix2 n p))) := by
  pointwise [softs, exps]

/-- A residual, from the assignments and the pixels. -/
theorem resids_apply (a x C) (n k : Fin 64) (ch : Fin 512) :
    resids a x C (ix3 n k ch) = ∑ p, a (ix3 n k p) * x (ix3 n ch p) - (∑ p, a (ix3 n k p)) * C (ix2 k ch) := by
  pointwise [resids]

/-- A row's entry over the row's norm. -/
theorem unitRows_apply (v) (n k : Fin 64) (ch : Fin 512) :
    unitRows v (ix3 n k ch) = Ideal.div (v (ix3 n k ch)) (max (Ideal.sqrt (∑ c', v (ix3 n k c') * v (ix3 n k c'))) eps) := by
  pointwise [unitRows, eps]

/-- A line's entry over the line's norm, summed cluster by cluster. -/
theorem unitLines_apply (v) (n : Fin 64) (q : Fin 32768) :
    unitLines (flat v) (ix2 n q)
      = Ideal.div (v (ix3 n ⟨q.val / 512, by omega⟩ ⟨q.val % 512, by omega⟩))
          (max (Ideal.sqrt (∑ k : Fin 64, ∑ c : Fin 512, v (ix3 n k c) * v (ix3 n k c))) eps) := by
  rw [← Fin.sum_divmod_fin (N := 32768) 512 fun (k : Fin 64) (c : Fin 512) => v (ix3 n k c) * v (ix3 n k c)]
  pointwise [unitLines, flat, eps]

/-- The reference's result at sample `n`, entry `q`: the closing normalisations of what the 1024 pixels give. -/
theorem staged_apply (x w b C) (n : Fin 64) (q : Fin 32768) :
    unitLines (flat (unitRows (resids (softs (logits x w b)) (pix x) C))) (ix2 n q)
      = finish (fun k c => C (ix2 k c)) (gather (fun k c => w (ix2 k c)) (fun k => b (ix1 k)) (px x n))
          (mass (fun k c => w (ix2 k c)) (fun k => b (ix1 k)) (px x n)) ⟨q.val / 512, by omega⟩ ⟨q.val % 512, by omega⟩ := by
  simp only [unitLines_apply, unitRows_apply, resids_apply, softs_apply, tops_apply, logits_apply, pix_apply]
  rfl

end Ref

end Cert.Vlad

end
-- ==== Proof.Vlad.Payload.lean ====
module

public import proofs.«01_k».proof.Proof.Gen.KernelIdeal.Value
public import proofs.«01_k».proof.Proof.Vlad.Spec

/-!
  The kernel's arithmetic on one sample, read at an index. The program spells it out once for each of the eight samples
  of a block; what is stated here of the first sample's spelling holds of the other seven by unfolding.
-/

@[expose] public section

noncomputable section

namespace Cert.Vlad

open Cert.KernelIdeal Cert.KernelIdeal.Gen Idealize.ShloMosaic

/-- The weights, the bias, a block of pixels, a carried block and a carried column as functions of coordinates. -/
abbrev wOf (w : Vec Ideal S64x512 .f32) : Fin 64 → Fin 512 → EReal := fun k c => w (ix2 k c)
abbrev bOf (b : Vec Ideal S64x1 .f32) : Fin 64 → EReal := fun k => b (ix2 k 0)
abbrev xOf (x : Vec Ideal S1x1x512x512 .f32) : Fin 512 → Fin 512 → EReal := fun p c => x (ix4 0 0 p c)
abbrev vOf (v : Vec Ideal S1x64x512 .f32) : Fin 64 → Fin 512 → EReal := fun k c => v (ix3 0 k c)
abbrev sOf (v : Vec Ideal S1x64x1 .f32) : Fin 64 → EReal := fun k => v (ix3 0 k 0)

variable (w : Vec Ideal S64x512 .f32) (b : Vec Ideal S64x1 .f32) (x : Vec Ideal S1x1x512x512 .f32)

/-- The kernel's softmax over the clusters, at cluster `k` and pixel `p`. -/
theorem softmax_apply (k : Fin 64) (p : Fin 512) : k0_pay24 w b x (ix2 k p) = soft (wOf w) (bOf b) (xOf x p) k := by
  pointwise [k0_pay24, k0_pay21, k0_pay22, k0_pay23]
  rfl

/-- What the first half stores for a sample: the gathered pixels. -/
theorem storeV_apply (k : Fin 64) (c : Fin 512) :
    k0_pay27 w b x (ix3 0 k c) = gather (wOf w) (bOf b) (xOf x) k c := by
  pointwise [k0_pay27, k0_pay25, k0_pay23, gather]
  simp only [softmax_apply]

/-- What the first half stores for a sample: the mass of each cluster. -/
theorem storeS_apply (k : Fin 64) : k0_pay28 w b x (ix3 0 k 0) = mass (wOf w) (bOf b) (xOf x) k := by
  pointwise [k0_pay28, k0_pay26, mass]
  simp only [softmax_apply]

/-- What the second half stores: the gathered pixels, added to what was carried. -/
theorem addV_apply (v : Vec Ideal S1x64x512 .f32) (k : Fin 64) (c : Fin 512) :
    k0_pay29 w b x v (ix3 0 k c) = vOf v k c + gather (wOf w) (bOf b) (xOf x) k c := by
  pointwise [k0_pay29, k0_pay25, k0_pay23, gather]
  simp only [softmax_apply]

/-- What the second half stores: the masses, added to what was carried. -/
theorem addS_apply (v : Vec Ideal S1x64x1 .f32) (k : Fin 64) :
    k0_pay30 w b x v (ix3 0 k 0) = sOf v k + mass (wOf w) (bOf b) (xOf x) k := by
  pointwise [k0_pay30, k0_pay26, mass]
  simp only [softmax_apply]

/-- The closing normalisations of one sample, at cluster `k` and channel `c`. -/
theorem finish_apply (v : Vec Ideal S1x64x512 .f32) (s : Vec Ideal S1x64x1 .f32) (k : Fin 64) (c : Fin 512) :
    k0_pay9 w v s (ix2 k c) = finish (wOf w) (vOf v) (sOf s) k c := by
  pointwise [k0_pay9]
  rfl

/-- The block a program point writes: at sample `s` and flat position `q`, the closing normalisations of that sample at
    cluster `q / 512` and channel `q % 512`. The carried blocks and columns of the eight samples are `v` and `a`. -/
theorem block_apply (v : Fin 8 → Vec Ideal S1x64x512 .f32) (a : Fin 8 → Vec Ideal S1x64x1 .f32) (s : Fin 8) (q : Fin 32768) :
    k0_pay8 w (k0_pay9 w (v 0) (a 0)) (k0_pay11 (k0_pay10 w (v 1) (a 1))) (k0_pay12 w (v 2) (a 2))
        (k0_pay15 (k0_pay13 w (v 3) (a 3)) (k0_pay14 w (v 3) (a 3))) (k0_pay16 w (v 4) (a 4))
        (k0_pay18 w (k0_pay17 (v 5)) (a 5)) (k0_pay19 w (v 6) (a 6)) (k0_pay20 w (v 6) (a 6)) (v 7) (a 7) (ix2 s q)
      = finish (wOf w) (vOf (v s)) (sOf (a s)) ⟨q.val / 512, by omega⟩ ⟨q.val % 512, by omega⟩ := by
  show shapeCast S8x32768 (concatenate S8x64x512 0 (List.ofFn fun s' : Fin 8 =>
      (⟨S1x64x512, shapeCast S1x64x512 (k0_pay9 w (v s') (a s')) shapeCasts_S64x512_S1x64x512⟩ : (t : Shape) × (t.Idx → EReal)))
        concatenates_S1x64x512_S1x64x512_S1x64x512_S1x64x512_S1x64x512_S1x64x512_S1x64x512_S1x64x512_S8x64x512_d0)
      shapeCasts_S8x64x512_S8x32768 (ix2 s q) = _
  pointwise
  exact finish_apply w (v s) (a s) _ _

end Cert.Vlad

end
-- ==== Proof.Vlad.Block.lean ====
module

public import proofs.«01_k».proof.Proof.Vlad.Payload
public import Idealize.ShloMosaic.Lib.Pipeline.ValueKit.Tiles

/-!
  What the grid points leave: an even point fills the two carried buffers from its half of the pixels, an odd point adds
  its half to them and writes the block of the result.
-/

@[expose] public section

noncomputable section

namespace Cert.Vlad

open Cert.KernelIdeal Cert.KernelIdeal.Gen Cert.KernelIdeal.Value Idealize.ShloMosaic Idealize.ShloMosaic.TcCoe Idealize.SL.Sem

/-- The pixels of sample `s` of a block. -/
abbrev pixels (X : Vec Ideal S8x1x512x512 .f32) (s : Fin 8) : Fin 512 → Fin 512 → EReal := fun p c => X (ix4 s 0 p c)

/-- The part of a block that is loaded for sample `s` holds that sample's pixels. -/
theorem xOf_ld (X : Vec Ideal S8x1x512x512 .f32) (n : Nat) (s : Fin 8) (hs : s.val = n)
    (inb : ∀ a, (![n, 0, 0, 0] : Fin 4 → Nat) a + (![1, 1, 512, 512] : Fin 4 → Nat) a ≤ S8x1x512x512.size a) :
    xOf (View.ld X (Rect.unit ![n, 0, 0, 0] ![1, 1, 512, 512] inb)) = pixels X s := by
  subst hs
  funext p c
  exact View.ld_unit_apply_of X _ _ inb _ (ix4 s 0 p c) fun a => by fin_cases a <;> simp

/-- The part of the carried buffer that is loaded for sample `s` holds that sample's rows. -/
theorem vOf_ld (V : Vec Ideal S8x64x512 .f32) (n : Nat) (s : Fin 8) (hs : s.val = n)
    (inb : ∀ a, (![n, 0, 0] : Fin 3 → Nat) a + (![1, 64, 512] : Fin 3 → Nat) a ≤ S8x64x512.size a) :
    vOf (View.ld V (Rect.unit ![n, 0, 0] ![1, 64, 512] inb)) = fun k c => V (ix3 s k c) := by
  subst hs
  funext k c
  exact View.ld_unit_apply_of V _ _ inb _ (ix3 s k c) fun a => by fin_cases a <;> simp

/-- The part of the carried column that is loaded for sample `s` holds that sample's masses. -/
theorem sOf_ld (A : Vec Ideal S8x64x1 .f32) (n : Nat) (s : Fin 8) (hs : s.val = n)
    (inb : ∀ a, (![n, 0, 0] : Fin 3 → Nat) a + (![1, 64, 1] : Fin 3 → Nat) a ≤ S8x64x1.size a) :
    sOf (View.ld A (Rect.unit ![n, 0, 0] ![1, 64, 1] inb)) = fun k => A (ix3 s k 0) := by
  subst hs
  funext k
  exact View.ld_unit_apply_of A _ _ inb _ (ix3 s k 0) fun a => by fin_cases a <;> simp

section Stores

variable (w : Vec Ideal S64x512 .f32) (b : Vec Ideal S64x1 .f32) (X : Vec Ideal S8x1x512x512 .f32)
  (V : Vec Ideal S8x64x512 .f32) (A : Vec Ideal S8x64x1 .f32) (n : Nat) (s : Fin 8)
  (hX : ∀ a, (![n, 0, 0, 0] : Fin 4 → Nat) a + (![1, 1, 512, 512] : Fin 4 → Nat) a ≤ S8x1x512x512.size a)
  (hV : ∀ a, (![n, 0, 0] : Fin 3 → Nat) a + (![1, 64, 512] : Fin 3 → Nat) a ≤ S8x64x512.size a)
  (hA : ∀ a, (![n, 0, 0] : Fin 3 → Nat) a + (![1, 64, 1] : Fin 3 → Nat) a ≤ S8x64x1.size a)

/-- The store of the gathered pixels in the first half, from the buffer's index to the piece's. -/
theorem storeV_at (k : Fin 64) (c : Fin 512) (i : S1x64x512.Idx) (h0 : s.val = n + (i 0).val) (h1 : k.val = (i 1).val)
    (h2 : c.val = (i 2).val) :
    k0_pay27 w b (View.ld X (Rect.unit ![n, 0, 0, 0] ![1, 1, 512, 512] hX)) i = gather (wOf w) (bOf b) (pixels X s) k c := by
  have hz : (i 0).val < 1 := (i 0).isLt
  rw [show i = ix3 0 k c by idx_ext, storeV_apply, xOf_ld X n s (by omega)]

/-- The store of the masses in the first half. -/
theorem storeS_at (k : Fin 64) (i : S1x64x1.Idx) (h0 : s.val = n + (i 0).val) (h1 : k.val = (i 1).val) :
    k0_pay28 w b (View.ld X (Rect.unit ![n, 0, 0, 0] ![1, 1, 512, 512] hX)) i = mass (wOf w) (bOf b) (pixels X s) k := by
  have hz : (i 0).val < 1 := (i 0).isLt
  have hz' : (i 2).val < 1 := (i 2).isLt
  rw [show i = ix3 0 k 0 by idx_ext, storeS_apply, xOf_ld X n s (by omega)]

/-- The store of the gathered pixels in the second half, over what the buffer held. -/
theorem addV_at (V' : Vec Ideal S8x64x512 .f32) (e : V' = V) (k : Fin 64) (c : Fin 512) (i : S1x64x512.Idx) (h0 : s.val = n + (i 0).val) (h1 : k.val = (i 1).val)
    (h2 : c.val = (i 2).val) :
    k0_pay29 w b (View.ld X (Rect.unit ![n, 0, 0, 0] ![1, 1, 512, 512] hX)) (View.ld V' (Rect.unit ![n, 0, 0] ![1, 64, 512] hV)) i
      = V (ix3 s k c) + gather (wOf w) (bOf b) (pixels X s) k c := by
  have hz : (i 0).val < 1 := (i 0).isLt
  rw [e, show i = ix3 0 k c by idx_ext, addV_apply, xOf_ld X n s (by omega), vOf_ld V n s (by omega)]

/-- The store of the masses in the second half, over what the column held. -/
theorem addS_at (A' : Vec Ideal S8x64x1 .f32) (e : A' = A) (k : Fin 64) (i : S1x64x1.Idx) (h0 : s.val = n + (i 0).val) (h1 : k.val = (i 1).val) :
    k0_pay30 w b (View.ld X (Rect.unit ![n, 0, 0, 0] ![1, 1, 512, 512] hX)) (View.ld A' (Rect.unit ![n, 0, 0] ![1, 64, 1] hA)) i
      = A (ix3 s k 0) + mass (wOf w) (bOf b) (pixels X s) k := by
  have hz : (i 0).val < 1 := (i 0).isLt
  have hz' : (i 2).val < 1 := (i 2).isLt
  rw [e, show i = ix3 0 k 0 by idx_ext, addS_apply, xOf_ld X n s (by omega), sOf_ld A n s (by omega)]

end Stores

/-- A sample's rows loaded from the carried buffer after the stores `L`. -/
abbrev loadV {κ : Kind} (b : View sig κ .vmem S8x64x512 .f32) (L : List (View.Piece (Elt Ideal) S8x64x512 .f32)) (n : Nat)
    (h : ∀ a, (![n, 0, 0] : Fin 3 → Nat) a + (![1, 64, 512] : Fin 3 → Nat) a ≤ S8x64x512.size a) : Vec Ideal S1x64x512 .f32 :=
  b.readCov L (Rect.toLoadRect (Rect.unit (s := S8x64x512) ![n, 0, 0] ![1, 64, 512] h))

/-- A sample's masses loaded from the carried column after the stores `K`. -/
abbrev loadS {κ : Kind} (b : View sig κ .vmem S8x64x1 .f32) (K : List (View.Piece (Elt Ideal) S8x64x1 .f32)) (n : Nat)
    (h : ∀ a, (![n, 0, 0] : Fin 3 → Nat) a + (![1, 64, 1] : Fin 3 → Nat) a ≤ S8x64x1.size a) : Vec Ideal S1x64x1 .f32 :=
  b.readCov K (Rect.toLoadRect (Rect.unit (s := S8x64x1) ![n, 0, 0] ![1, 64, 1] h))

/-- A block written from two carried buffers, each filled by stores `L` and `K` that leave `V` and `A` in it: at sample
    `s` and flat position `q`, the closing normalisations of that sample's rows and masses. -/
theorem block_of_stores {κ κ' : Kind} (bV : View sig κ .vmem S8x64x512 .f32) (bA : View sig κ' .vmem S8x64x1 .f32) (w : Vec Ideal S64x512 .f32) (L : List (View.Piece (Elt Ideal) S8x64x512 .f32))
    (K : List (View.Piece (Elt Ideal) S8x64x1 .f32)) (V : Fin 8 → Fin 64 → Fin 512 → EReal) (A : Fin 8 → Fin 64 → EReal)
    (s : Fin 8) (q : Fin 32768)
    (hL : ∀ y, ∃ p ∈ L, y ∈ p.1.set) (hK : ∀ y, ∃ p ∈ K, y ∈ p.1.set)
    (hV : ∀ s k c, View.canon L (ix3 s k c) = V s k c) (hA : ∀ s k, View.canon K (ix3 s k 0) = A s k) :
    k0_pay8 w (k0_pay9 w (loadV bV L 0 inb_S8x64x512_S1x64x512_0_0_0) (loadS bA K 0 inb_S8x64x1_S1x64x1_0_0_0))
        (k0_pay11 (k0_pay10 w (loadV bV L 1 inb_S8x64x512_S1x64x512_1_0_0) (loadS bA K 1 inb_S8x64x1_S1x64x1_1_0_0)))
        (k0_pay12 w (loadV bV L 2 inb_S8x64x512_S1x64x512_2_0_0) (loadS bA K 2 inb_S8x64x1_S1x64x1_2_0_0))
        (k0_pay15 (k0_pay13 w (loadV bV L 3 inb_S8x64x512_S1x64x512_3_0_0) (loadS bA K 3 inb_S8x64x1_S1x64x1_3_0_0))
          (k0_pay14 w (loadV bV L 3 inb_S8x64x512_S1x64x512_3_0_0) (loadS bA K 3 inb_S8x64x1_S1x64x1_3_0_0)))
        (k0_pay16 w (loadV bV L 4 inb_S8x64x512_S1x64x512_4_0_0) (loadS bA K 4 inb_S8x64x1_S1x64x1_4_0_0))
        (k0_pay18 w (k0_pay17 (loadV bV L 5 inb_S8x64x512_S1x64x512_5_0_0)) (loadS bA K 5 inb_S8x64x1_S1x64x1_5_0_0))
        (k0_pay19 w (loadV bV L 6 inb_S8x64x512_S1x64x512_6_0_0) (loadS bA K 6 inb_S8x64x1_S1x64x1_6_0_0))
        (k0_pay20 w (loadV bV L 6 inb_S8x64x512_S1x64x512_6_0_0) (loadS bA K 6 inb_S8x64x1_S1x64x1_6_0_0))
        (loadV bV L 7 inb_S8x64x512_S1x64x512_7_0_0) (loadS bA K 7 inb_S8x64x1_S1x64x1_7_0_0) (ix2 s q)
      = finish (wOf w) (V s) (A s) ⟨q.val / 512, by omega⟩ ⟨q.val % 512, by omega⟩ := by
  have hv (n : Fin 8) (a : Fin 3) : (![n.val, 0, 0] : Fin 3 → Nat) a + (![1, 64, 512] : Fin 3 → Nat) a ≤ S8x64x512.size a := by
    fin_cases a <;> simp <;> omega
  have ha (n : Fin 8) (a : Fin 3) : (![n.val, 0, 0] : Fin 3 → Nat) a + (![1, 64, 1] : Fin 3 → Nat) a ≤ S8x64x1.size a := by
    fin_cases a <;> simp <;> omega
  refine (block_apply w (fun n => loadV bV L n.val (hv n)) (fun n => loadS bA K n.val (ha n)) s q).trans ?_
  have e1 : vOf (loadV bV L s.val (hv s)) = V s := by
    unfold loadV
    rw [View.readCov_eq_canon_ld _ _ _ hL]
    exact (vOf_ld (View.canon L) s.val s rfl (hv s)).trans (funext fun k => funext fun c => hV s k c)
  have e2 : sOf (loadS bA K s.val (ha s)) = A s := by
    unfold loadS
    rw [View.readCov_eq_canon_ld _ _ _ hK]
    exact (sOf_ld (View.canon K) s.val s rfl (ha s)).trans (funext fun k => hA s k)
  rw [e1, e2]

variable (m : (ℓ : Loc nD τ sig) → Buf (Elt Ideal) ℓ) (c : Dev nD) (t : Fin cfg0.N)
  (acc : Vec Ideal S8x32768 .f32 × Vec Ideal S8x64x512 .f32 × Vec Ideal S8x64x1 .f32)

/-- After an even point the carried buffer holds, per sample, the gathered pixels of that point's block. -/
theorem even_V (h0 : t.val % 2 = 0) (s : Fin 8) (k : Fin 64) (ch : Fin 512) :
    (stAt0 m c t.val t.isLt acc).2.1 (ix3 s k ch)
      = gather (wOf (iblk m c 1 t)) (bOf (iblk m c 2 t)) (pixels (iblk m c 0 t) s) k ch := by
  rw [stAt0_A m c t acc h0 (by omega) h0 (by omega) h0 (by omega) h0 (by omega) h0 (by omega) h0 (by omega) h0 (by omega) h0 (by omega) (by omega)]
  frame_out
  canon_tiles x h
  all_goals exact storeV_at (iblk m c 1 t) (iblk m c 2 t) (iblk m c 0 t) _ s _ k ch x (by simpa using h0) (by simpa using h1) (by simpa using h2)

/-- After an even point the carried column holds, per sample, the masses of that point's block. -/
theorem even_S (h0 : t.val % 2 = 0) (s : Fin 8) (k : Fin 64) :
    (stAt0 m c t.val t.isLt acc).2.2 (ix3 s k 0)
      = mass (wOf (iblk m c 1 t)) (bOf (iblk m c 2 t)) (pixels (iblk m c 0 t) s) k := by
  rw [stAt0_A m c t acc h0 (by omega) h0 (by omega) h0 (by omega) h0 (by omega) h0 (by omega) h0 (by omega) h0 (by omega) h0 (by omega) (by omega)]
  frame_out
  canon_tiles x h
  all_goals exact storeS_at (iblk m c 1 t) (iblk m c 2 t) (iblk m c 0 t) _ s _ k x (by simpa using h0) (by simpa using h1)

/-- An odd point writes, at sample `s` and flat position `q` of its block, the closing normalisations of what was
    carried plus what its own block gathers. -/
theorem odd_block (h0 : t.val % 2 = 1) (s : Fin 8) (q : Fin 32768) :
    (stAt0 m c t.val t.isLt acc).1 (ix2 s q)
      = finish (wOf (iblk m c 3 t))
          (fun k ch => acc.2.1 (ix3 s k ch) + gather (wOf (iblk m c 1 t)) (bOf (iblk m c 2 t)) (pixels (iblk m c 0 t) s) k ch)
          (fun k => acc.2.2 (ix3 s k 0) + mass (wOf (iblk m c 1 t)) (bOf (iblk m c 2 t)) (pixels (iblk m c 0 t) s) k)
          ⟨q.val / 512, by omega⟩ ⟨q.val % 512, by omega⟩ := by
  rw [stAt0_B m c t acc (by omega) h0 (by omega) h0 (by omega) h0 (by omega) h0 (by omega) h0 (by omega) h0 (by omega) h0 (by omega) h0 h0]
  frame_out
  refine block_of_stores _ _ (iblk m c 3 t) _ _
    (fun s k ch => acc.2.1 (ix3 s k ch) + gather (wOf (iblk m c 1 t)) (bOf (iblk m c 2 t)) (pixels (iblk m c 0 t) s) k ch)
    (fun s k => acc.2.2 (ix3 s k 0) + mass (wOf (iblk m c 1 t)) (bOf (iblk m c 2 t)) (pixels (iblk m c 0 t) s) k)
    s q ?_ ?_ ?_ ?_
  · exact View.cover_of_tiled_head _ _ _ (by rfl)
  · exact View.cover_of_tiled_head _ _ _ (by rfl)
  · intro s k ch
    canon_tiles x h
    all_goals exact addV_at (iblk m c 1 t) (iblk m c 2 t) (iblk m c 0 t) acc.2.1 _ s _ _ _ (Memref.IsWhole.read_unread _ _) k ch x (by simpa using h0) (by simpa using h1) (by simpa using h2)
  · intro s k
    canon_tiles x h
    all_goals exact addS_at (iblk m c 1 t) (iblk m c 2 t) (iblk m c 0 t) acc.2.2 _ s _ _ _ (Memref.IsWhole.read_unread _ _) k x (by simpa using h0) (by simpa using h1)

end Cert.Vlad

end
-- ==== Proof.Vlad.Halves.lean ====
module

public import proofs.«01_k».proof.Proof.Vlad.Spec

/-!
  A sample's 1024 pixels in two halves: what the halves give adds up to what the sample gives.
-/

@[expose] public section

noncomputable section

namespace Cert.Vlad

variable (w : Fin 64 → Fin 512 → EReal) (b : Fin 64 → EReal) (X : Fin 1024 → Fin 512 → EReal)

/-- Half `h` of the pixels. -/
def half (h : Fin 2) : Fin 512 → Fin 512 → EReal := fun p => X ⟨h.val * 512 + p.val, by omega⟩

/-- A sum over the pixels is the sum over the first half and the sum over the second. -/
theorem sum_halves (f : (Fin 512 → EReal) → EReal) : ∑ p, f (half X 0 p) + ∑ p, f (half X 1 p) = ∑ p, f (X p) := by
  rw [Idealize.ShloMosaic.Fin.sum_univ_two_halves 512 512 rfl fun p => f (X p)]
  simp only [half, Fin.val_zero, Fin.val_one, Nat.zero_mul, Nat.zero_add, Nat.one_mul]

/-- The gathered pixels of the two halves add up. -/
theorem gather_halves (k : Fin 64) (c : Fin 512) :
    gather w b (half X 0) k c + gather w b (half X 1) k c = gather w b X k c :=
  sum_halves X fun x => soft w b x k * x c

/-- The masses of the two halves add up. -/
theorem mass_halves (k : Fin 64) : mass w b (half X 0) k + mass w b (half X 1) k = mass w b X k :=
  sum_halves X fun x => soft w b x k

end Cert.Vlad

end
-- ==== Proof.Vlad.Array.lean ====
module

public import proofs.«01_k».proof.Proof.Vlad.Block
public import proofs.«01_k».proof.Proof.Vlad.Halves
public import Idealize.ShloMosaic.Lib.Pipeline.ValueKit.Geometry

/-!
  What the blocks of a grid point hold of the arguments.
-/

@[expose] public section

noncomputable section

namespace Cert.Vlad

open Cert.KernelIdeal Cert.KernelIdeal.Gen Cert.KernelIdeal.Value Idealize.ShloMosaic Idealize.ShloMosaic.TcCoe Idealize.SL.Sem

variable (m : (ℓ : Loc nD τ sig) → Buf (Elt Ideal) ℓ) (c : Dev nD)

/-- The four arguments as the launch finds them. -/
abbrev argX : FVec Ideal S64x512x32x32 .f32 := m ((c.tc : Thread nD τ).loc main_arg0)
abbrev argW : FVec Ideal S64x512 .f32 := m ((c.tc : Thread nD τ).loc main_arg1)
abbrev argB : FVec Ideal S64 .f32 := m ((c.tc : Thread nD τ).loc main_arg2)
abbrev argC : FVec Ideal S64x512 .f32 := m ((c.tc : Thread nD τ).loc main_arg3)

/-- The array of pixels the grid reads: the input flattened, channels last, cut in two halves. -/
def halves (x : FVec Ideal S64x512x32x32 .f32) : FVec Ideal S64x2x512x512 .f32 :=
  shapeCast _ (transpose S64x1024x512 [0, 2, 1] (shapeCast S64x512x1024 x shapeCasts_S64x512x32x32_S64x512x1024) transposes_S64x512x1024_S64x1024x512_0_2_1)
    shapeCasts_S64x1024x512_S64x2x512x512

/-- The column of biases the grid reads. -/
def column (b : FVec Ideal S64 .f32) : FVec Ideal S64x1 .f32 := shapeCast _ b shapeCasts_S64_S64x1

/-- The region finds the halved pixels. -/
theorem V_halves : V m c main_v2 = halves (argX m c) := by
  simp only [V, hostOps0]
  after_results_simp
  rfl

/-- The region finds the column of biases. -/
theorem V_column : V m c main_v3 = column (argB m c) := by
  simp only [V, hostOps0]
  after_results_simp
  rfl

/-- The pixels of sample `n` of the input. -/
def samplePx (x : FVec Ideal S64x512x32x32 .f32) (n : Fin 64) : Fin 1024 → Fin 512 → EReal :=
  fun p ch => x (ix4 n ch ⟨p.val / 32, by omega⟩ ⟨p.val % 32, by omega⟩)

/-- The halved pixels at an index: half `h` of the sample's pixels. -/
theorem halves_apply (x) (n : Fin 64) (h : Fin 2) (p ch : Fin 512) : halves x (ix4 n h p ch) = half (samplePx x n) h p ch := by
  pointwise [halves, half, samplePx]

/-- The column of biases at an index. -/
theorem column_apply (b) (k : Fin 64) : column b (ix2 k 0) = b (ix1 k) := by
  pointwise [column]

/-- The block indices of the four inputs at point `t`. -/
theorem index0 : ∀ t : Fin cfg0.N, win0_0.index t = ![t.val / 2, t.val % 2, 0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)

/-- The weights, the biases and the centroids over coordinates. -/
abbrev cW : Fin 64 → Fin 512 → EReal := fun k ch => argW m c (ix2 k ch)
abbrev cB : Fin 64 → EReal := fun k => argB m c (ix1 k)
abbrev cC : Fin 64 → Fin 512 → EReal := fun k ch => argC m c (ix2 k ch)

/-- Point `t` holds the weights. -/
theorem blk_w (t : Fin cfg0.N) : wOf (iblk m c 1 t) = cW m c := by
  funext k ch
  refine Eq.trans ?_ (congrFun (V_main_arg1 m c) (ix2 k ch))
  blk_ext [wOf, iblk, index1]

/-- Point `t` holds the centroids. -/
theorem blk_C (t : Fin cfg0.N) : wOf (iblk m c 3 t) = cC m c := by
  funext k ch
  refine Eq.trans ?_ (congrFun (V_main_arg3 m c) (ix2 k ch))
  blk_ext [wOf, iblk, index3]

/-- Point `t` holds the biases. -/
theorem blk_b (t : Fin cfg0.N) : bOf (iblk m c 2 t) = cB m c := by
  funext k
  refine Eq.trans ?_ ((congrFun (V_column m c) (ix2 k 0)).trans (column_apply _ k))
  blk_ext [bOf, iblk, index2]

/-- Point `t` holds, of sample `8 * (t / 2) + s`, the half `t % 2` of the pixels. -/
theorem blk_x (t : Fin cfg0.N) (s : Fin 8) (n : Fin 64) (h : Fin 2) (hn : n.val = 8 * (t.val / 2) + s.val) (hh : h.val = t.val % 2) :
    pixels (iblk m c 0 t) s = half (samplePx (argX m c) n) h := by
  funext p ch
  refine Eq.trans ?_ ((congrFun (V_halves m c) (ix4 n h p ch)).trans (halves_apply _ n h p ch))
  blk_ext [pixels, iblk, index0]

end Cert.Vlad

end
-- ==== Proof.Vlad.Result.lean ====
module

public import proofs.«01_k».proof.Proof.Vlad.Array

/-!
  What the result array holds after the grid: the odd point of a block over the even point before it.
-/

@[expose] public section

noncomputable section

namespace Cert.Vlad

open Cert.KernelIdeal Cert.KernelIdeal.Gen Cert.KernelIdeal.Value Idealize.ShloMosaic Idealize.ShloMosaic.TcCoe Idealize.SL.Sem

variable (m : (ℓ : Loc nD τ sig) → Buf (Elt Ideal) ℓ) (c : Dev nD)

/-- The fold over the points from the first, after point `j`. -/
abbrev foldAt (j : ℕ) (h : 0 + j < cfg0.N) := Pipeline.accAt (fun n h => stAt0 m c n h junk0) (stAt0 m c) 0 j h

/-- The fold at a point is the step there over something. -/
theorem foldAt_step (j : ℕ) (h : 0 + j < cfg0.N) :
    ∃ acc, foldAt m c j h = stAt0 m c j (by omega) acc := by
  cases j with
  | zero => exact ⟨junk0, rfl⟩
  | succ j =>
    refine ⟨foldAt m c j (by omega), ?_⟩
    show stAt0 m c (0 + (j + 1)) _ _ = _
    simp only [Nat.zero_add]

/-- The fold at the point after is the step there over the fold. -/
theorem foldAt_succ (j : ℕ) (h : 0 + (j + 1) < cfg0.N) :
    foldAt m c (j + 1) h = stAt0 m c (j + 1) (by omega) (foldAt m c j (by omega)) := by
  show stAt0 m c (0 + (j + 1)) _ _ = _
  simp only [Nat.zero_add]

/-- After the even point `2 * r` the carried buffer holds what the first half of sample `8 * r + s` gathers. -/
theorem fold_V (r : ℕ) (h : 0 + 2 * r < cfg0.N) (s : Fin 8) (n : Fin 64) (hn : n.val = 8 * r + s.val) (k : Fin 64) (ch : Fin 512) :
    (foldAt m c (2 * r) h).2.1 (ix3 s k ch) = gather (cW m c) (cB m c) (half (samplePx (argX m c) n) 0) k ch := by
  obtain ⟨acc, e⟩ := foldAt_step m c (2 * r) h
  rw [e, even_V m c ⟨2 * r, by omega⟩ acc (by show 2 * r % 2 = 0; omega) s k ch, blk_w, blk_b,
    blk_x m c ⟨2 * r, by omega⟩ s n 0 (by show n.val = 8 * (2 * r / 2) + s.val; omega) (by show 0 = 2 * r % 2; omega)]

/-- After the even point `2 * r` the carried column holds the masses of the first half of sample `8 * r + s`. -/
theorem fold_S (r : ℕ) (h : 0 + 2 * r < cfg0.N) (s : Fin 8) (n : Fin 64) (hn : n.val = 8 * r + s.val) (k : Fin 64) :
    (foldAt m c (2 * r) h).2.2 (ix3 s k 0) = mass (cW m c) (cB m c) (half (samplePx (argX m c) n) 0) k := by
  obtain ⟨acc, e⟩ := foldAt_step m c (2 * r) h
  rw [e, even_S m c ⟨2 * r, by omega⟩ acc (by show 2 * r % 2 = 0; omega) s k, blk_w, blk_b,
    blk_x m c ⟨2 * r, by omega⟩ s n 0 (by show n.val = 8 * (2 * r / 2) + s.val; omega) (by show 0 = 2 * r % 2; omega)]

/-- The odd point `2 * r + 1` writes the closing normalisations of sample `8 * r + s`. -/
theorem fold_out (r : ℕ) (h : 0 + (2 * r + 1) < cfg0.N) (s : Fin 8) (n : Fin 64) (hn : n.val = 8 * r + s.val) (q : Fin 32768) :
    (foldAt m c (2 * r + 1) h).1 (ix2 s q)
      = finish (cC m c) (gather (cW m c) (cB m c) (samplePx (argX m c) n)) (mass (cW m c) (cB m c) (samplePx (argX m c) n))
          ⟨q.val / 512, by omega⟩ ⟨q.val % 512, by omega⟩ := by
  rw [foldAt_succ, odd_block m c ⟨2 * r + 1, by omega⟩ _ (by show (2 * r + 1) % 2 = 1; omega) s q, blk_w, blk_b, blk_C,
    blk_x m c ⟨2 * r + 1, by omega⟩ s n 1 (by show n.val = 8 * ((2 * r + 1) / 2) + s.val; omega) (by show 1 = (2 * r + 1) % 2; omega)]
  simp only [fold_V m c r _ s n hn, fold_S m c r _ s n hn, gather_halves, mass_halves]

/-- The result array at sample `n`, entry `q`. -/
theorem result_apply (n : Fin 64) (q : Fin 32768) :
    G4 m c (ix2 n q)
      = finish (cC m c) (gather (cW m c) (cB m c) (samplePx (argX m c) n)) (mass (cW m c) (cB m c) (samplePx (argX m c) n))
          ⟨q.val / 512, by omega⟩ ⟨q.val % 512, by omega⟩ := by
  have hN : cfg0.N = 16 := N_0
  have hp : pt4Of (ix2 n q) = 2 * (n.val / 8) + 1 := by
    show 2 * (1 * (n.val / 8 - 0) + 1 * (q.val / 32768 - 0)) + 1 = _
    omega
  have hl : loc4Of (ix2 n q) = ix2 ⟨n.val % 8, by omega⟩ q := by
    funext a
    apply Fin.ext
    match a with
    | ⟨0, _⟩ => rfl
    | ⟨1, _⟩ => exact Nat.mod_eq_of_lt q.isLt
  unfold G4
  rw [dif_pos (by omega), hl, fold0_congr m c _ _ (2 * (n.val / 8) + 1) (by omega) hp]
  exact fold_out m c (n.val / 8) (by omega) ⟨n.val % 8, by omega⟩ n (by show n.val = 8 * (n.val / 8) + n.val % 8; omega) q

end Cert.Vlad

end
-- ==== Proof.Vlad.Tie.lean ====
module

public import proofs.«01_k».proof.Proof.Vlad.Reference
public import proofs.«01_k».proof.Proof.Vlad.Result

/-!
  The equation: from the same arguments the reference's term and the kernel's result array are one.
-/

@[expose] public section

noncomputable section

namespace Cert.Vlad

open Idealize.ShloMosaic Idealize.ShloMosaic.TcCoe Idealize.SL.Sem

/-- On memories that agree on the four arguments, the reference's result is the kernel's. -/
theorem tie (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (c' : Dev Cert.ReferenceIdeal.nD)
    (h0 : (m' ((c'.tc : Thread Cert.ReferenceIdeal.nD Cert.ReferenceIdeal.τ).loc Cert.ReferenceIdeal.main_arg0) : FVec Ideal Cert.KernelIdeal.S64x512x32x32 .f32) = argX m c)
    (h1 : (m' ((c'.tc : Thread Cert.ReferenceIdeal.nD Cert.ReferenceIdeal.τ).loc Cert.ReferenceIdeal.main_arg1) : FVec Ideal Cert.KernelIdeal.S64x512 .f32) = argW m c)
    (h2 : (m' ((c'.tc : Thread Cert.ReferenceIdeal.nD Cert.ReferenceIdeal.τ).loc Cert.ReferenceIdeal.main_arg2) : FVec Ideal Cert.KernelIdeal.S64 .f32) = argB m c)
    (h3 : (m' ((c'.tc : Thread Cert.ReferenceIdeal.nD Cert.ReferenceIdeal.τ).loc Cert.ReferenceIdeal.main_arg3) : FVec Ideal Cert.KernelIdeal.S64x512 .f32) = argC m c) :
    (Cert.ReferenceIdeal.Value.res_out0 m' c' : FVec Ideal Cert.KernelIdeal.S64x32768 .f32) = Cert.KernelIdeal.Value.G4 m c := by
  funext i
  rw [show i = ix2 (i 0) (i 1) by idx_ext]
  refine Eq.trans ?_ (result_apply m c (i 0) (i 1)).symm
  refine (congrFun (Ref.staged m' c') (ix2 (i 0) (i 1))).trans ((Ref.staged_apply _ _ _ _ (i 0) (i 1)).trans ?_)
  rw [h0, h1, h2, h3]
  rfl

end Cert.Vlad

end
-- ==== Proof.lean ====
/- The proof of the claims: the kernel's frame in both readings, the reference's run with its counters at zero, and the
   equation of the two results (`Cert.Vlad.tie`) under the kernel's value run and the reference's run. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.Vlad.Tie

@[expose] public section

noncomputable section

namespace Cert.Proof

open Idealize.ShloMosaic Idealize.SL.Sem

/-- The reference runs to the end, keeps its arguments and leaves no counter raised. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From the same arguments the kernel and the reference end with the same result, at the ideal values. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  exact Cert.Vlad.tie m m' c c (hagree c).1 (hagree c).2.1 (hagree c).2.2.1 (hagree c).2.2.2

/-- All the claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
